-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S48x8192x896 : Shape := ⟨3, ![48, 8192, 896]⟩
abbrev S48x64x896 : Shape := ⟨3, ![48, 64, 896]⟩
abbrev S48x8192x960 : Shape := ⟨3, ![48, 8192, 960]⟩
abbrev S48x64x960 : Shape := ⟨3, ![48, 64, 960]⟩
abbrev S896x960 : Shape := ⟨2, ![896, 960]⟩
abbrev S48x960x8192 : Shape := ⟨3, ![48, 960, 8192]⟩
abbrev S960x896 : Shape := ⟨2, ![960, 896]⟩
abbrev S1x2048x896 : Shape := ⟨3, ![1, 2048, 896]⟩
abbrev S1x16x896 : Shape := ⟨3, ![1, 16, 896]⟩
abbrev S1x960x2048 : Shape := ⟨3, ![1, 960, 2048]⟩
abbrev S1x16x960 : Shape := ⟨3, ![1, 16, 960]⟩
abbrev S2048x896 : Shape := ⟨2, ![2048, 896]⟩
abbrev S960x2048 : Shape := ⟨2, ![960, 2048]⟩
abbrev S16x960 : Shape := ⟨2, ![16, 960]⟩
abbrev S960x16 : Shape := ⟨2, ![960, 16]⟩
abbrev S1x128x896 : Shape := ⟨3, ![1, 128, 896]⟩
abbrev S128x896 : Shape := ⟨2, ![128, 896]⟩
abbrev S1x1x896 : Shape := ⟨3, ![1, 1, 896]⟩
abbrev S1x896 : Shape := ⟨2, ![1, 896]⟩
abbrev S1x960x128 : Shape := ⟨3, ![1, 960, 128]⟩
abbrev S960x128 : Shape := ⟨2, ![960, 128]⟩
abbrev S960x1 : Shape := ⟨2, ![960, 1]⟩

abbrev nBuf : Space → Nat
  | .hbm => 9
  | .vmem => 12
  | .smem => 0
  | _ => 0

abbrev bufTy : (tb : Table) → Fin (tcTables nBuf tb) → BufTy
  | .hbm, ⟨0, _⟩ => ⟨S48x8192x896, .fp8e4m3⟩
  | .hbm, ⟨1, _⟩ => ⟨S48x64x896, .f32⟩
  | .hbm, ⟨2, _⟩ => ⟨S48x8192x960, .fp8e5m2⟩
  | .hbm, ⟨3, _⟩ => ⟨S48x64x960, .f32⟩
  | .hbm, ⟨4, _⟩ => ⟨S896x960, .f32⟩
  | .hbm, ⟨5, _⟩ => ⟨S48x960x8192, .fp8e5m2⟩
  | .hbm, ⟨6, _⟩ => ⟨S960x896, .f32⟩
  | .hbm, ⟨7, _⟩ => ⟨S960x896, .f32⟩
  | .hbm, ⟨8, _⟩ => ⟨S896x960, .f32⟩
  | .local _ .vmem, ⟨0, _⟩ => ⟨S1x2048x896, .fp8e4m3⟩
  | .local _ .vmem, ⟨1, _⟩ => ⟨S1x2048x896, .fp8e4m3⟩
  | .local _ .vmem, ⟨2, _⟩ => ⟨S1x16x896, .f32⟩
  | .local _ .vmem, ⟨3, _⟩ => ⟨S1x16x896, .f32⟩
  | .local _ .vmem, ⟨4, _⟩ => ⟨S1x960x2048, .fp8e5m2⟩
  | .local _ .vmem, ⟨5, _⟩ => ⟨S1x960x2048, .fp8e5m2⟩
  | .local _ .vmem, ⟨6, _⟩ => ⟨S1x16x960, .f32⟩
  | .local _ .vmem, ⟨7, _⟩ => ⟨S1x16x960, .f32⟩
  | .local _ .vmem, ⟨8, _⟩ => ⟨S960x896, .f32⟩
  | .local _ .vmem, ⟨9, _⟩ => ⟨S960x896, .f32⟩
  | .local _ .vmem, ⟨10, _⟩ => ⟨S2048x896, .bf16⟩
  | .local _ .vmem, ⟨11, _⟩ => ⟨S960x2048, .bf16⟩
  | _, _ => ⟨S48x8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![192], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x896 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x960x2048 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S960x896 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S960x896 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S48x8192x896 : Shape := ⟨3, ![48, 8192, 896]⟩
abbrev S48x64x896 : Shape := ⟨3, ![48, 64, 896]⟩
abbrev S48x8192x960 : Shape := ⟨3, ![48, 8192, 960]⟩
abbrev S48x64x960 : Shape := ⟨3, ![48, 64, 960]⟩
abbrev S896x960 : Shape := ⟨2, ![896, 960]⟩
abbrev S48x64x128x896 : Shape := ⟨4, ![48, 64, 128, 896]⟩
abbrev S48x64x1x896 : Shape := ⟨4, ![48, 64, 1, 896]⟩
abbrev S48x64x128x960 : Shape := ⟨4, ![48, 64, 128, 960]⟩
abbrev S48x64x1x960 : Shape := ⟨4, ![48, 64, 1, 960]⟩

abbrev nBuf : Space → Nat
  | .hbm => 6
  | .vmem => 6
  | .smem => 0
  | _ => 0

abbrev bufTy : (tb : Table) → Fin (tcTables nBuf tb) → BufTy
  | .hbm, ⟨0, _⟩ => ⟨S48x8192x896, .fp8e4m3⟩
  | .hbm, ⟨1, _⟩ => ⟨S48x64x896, .f32⟩
  | .hbm, ⟨2, _⟩ => ⟨S48x8192x960, .fp8e5m2⟩
  | .hbm, ⟨3, _⟩ => ⟨S48x64x960, .f32⟩
  | .hbm, ⟨4, _⟩ => ⟨S896x960, .f32⟩
  | .hbm, ⟨5, _⟩ => ⟨S896x960, .f32⟩
  | .local _ .vmem, ⟨0, _⟩ => ⟨S48x8192x896, .fp8e4m3⟩
  | .local _ .vmem, ⟨1, _⟩ => ⟨S48x64x896, .f32⟩
  | .local _ .vmem, ⟨2, _⟩ => ⟨S48x8192x960, .fp8e5m2⟩
  | .local _ .vmem, ⟨3, _⟩ => ⟨S48x64x960, .f32⟩
  | .local _ .vmem, ⟨4, _⟩ => ⟨S896x960, .f32⟩
  | .local _ .vmem, ⟨5, _⟩ => ⟨S896x960, .f32⟩
  | _, _ => ⟨S48x8192x896, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S48x8192x896 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x64x896 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x8192x960 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x64x960 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S896x960 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S896x960 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Equation.lean ====
/- The equation between the two programs' sums over the tokens, over the extended reals and away from both programs:
   the reference sums the 48·64·128 tokens (sequence, block, position in the block) at once; the kernel sums them as 192
   points of 2048 tokens. Both orders of summation run over the same tokens, and the extended reals' addition is commutative
   and associative, their multiplication commutative. -/
module

public import Idealize.ShloMosaic.Lib.ValueIdx

@[expose] public section

noncomputable section

open Idealize.ShloMosaic Idealize.ShloMosaic.ValueIdx
open scoped BigOperators

namespace Cert.Tokens

/-- Point `s` works on a quarter of this sequence. -/
def seqOf (s : Fin 192) : Fin 48 := ⟨s.val / 4, by have := s.isLt; omega⟩
/-- Token `l` of point `s`, as a position in its sequence. -/
def posOf (s : Fin 192) (l : Fin 2048) : Fin 8192 := ⟨2048 * (s.val % 4) + l.val, by have := l.isLt; omega⟩
/-- Block `k` of point `s`, as a block of its sequence. -/
def blkOf (s : Fin 192) (k : Fin 16) : Fin 64 := ⟨16 * (s.val % 4) + k.val, by have := k.isLt; omega⟩
/-- The 128-token block that token `l` of a point's 2048 tokens lies in. -/
def blockOf (l : Fin 2048) : Fin 16 := ⟨l.val / 128, by have := l.isLt; omega⟩
/-- Position `t` of block `n`, as a position in the sequence. -/
def posIn (n : Fin 64) (t : Fin 128) : Fin 8192 := ⟨128 * n.val + t.val, by have := n.isLt; have := t.isLt; omega⟩

/-- A token is named once by (point, token of the point) and once by (sequence, block, position in the block). -/
def tokenEquiv : Fin 192 × Fin 2048 ≃ Fin 48 × Fin 64 × Fin 128 where
  toFun p := (seqOf p.1, blkOf p.1 (blockOf p.2), ⟨p.2.val % 128, Nat.mod_lt _ (by decide)⟩)
  invFun q := (⟨4 * q.1.val + q.2.1.val / 16, by have := q.1.isLt; have := q.2.1.isLt; omega⟩,
    ⟨128 * (q.2.1.val % 16) + q.2.2.val, by have := q.2.2.isLt; omega⟩)
  left_inv := by
    rintro ⟨⟨s, hs⟩, ⟨l, hl⟩⟩
    refine Prod.ext (Fin.ext ?_) (Fin.ext ?_)
    · show 4 * (s / 4) + (16 * (s % 4) + l / 128) / 16 = s; omega
    · show 128 * ((16 * (s % 4) + l / 128) % 16) + l % 128 = l; omega
  right_inv := by
    rintro ⟨⟨b, hb⟩, ⟨n, hn⟩, ⟨t, ht⟩⟩
    refine Prod.ext (Fin.ext ?_) (Prod.ext (Fin.ext ?_) (Fin.ext ?_))
    · show (4 * b + n / 16) / 4 = b; omega
    · show 16 * ((4 * b + n / 16) % 4) + (128 * (n % 16) + t) / 128 = n; omega
    · show (128 * (n % 16) + t) % 128 = t; omega

variable (a0 : (⟨3, ![48, 8192, 896]⟩ : Shape).Idx → EReal) (a1 : (⟨3, ![48, 64, 896]⟩ : Shape).Idx → EReal)
  (a2 : (⟨3, ![48, 8192, 960]⟩ : Shape).Idx → EReal) (a3 : (⟨3, ![48, 64, 960]⟩ : Shape).Idx → EReal)
  (ci : Fin 896) (co : Fin 960)

/-- What a token adds to the weight gradient at (input channel, output channel), as the reference writes it. -/
def token (b : Fin 48) (n : Fin 64) (t : Fin 128) : EReal :=
  (a0 (ix3 b (posIn n t) ci) * a1 (ix3 b n ci)) * (a2 (ix3 b (posIn n t) co) * a3 (ix3 b n co))

/-- The same, as the kernel's point `s` writes it for its token `l`. -/
def pointToken (s : Fin 192) (l : Fin 2048) : EReal :=
  (a2 (ix3 (seqOf s) (posOf s l) co) * a3 (ix3 (seqOf s) (blkOf s (blockOf l)) co))
    * (a0 (ix3 (seqOf s) (posOf s l) ci) * a1 (ix3 (seqOf s) (blkOf s (blockOf l)) ci))

/-- The two names of a token add the same. -/
theorem pointToken_eq (p : Fin 192 × Fin 2048) :
    pointToken a0 a1 a2 a3 ci co p.1 p.2
      = token a0 a1 a2 a3 ci co (tokenEquiv p).1 (tokenEquiv p).2.1 (tokenEquiv p).2.2 := by
  obtain ⟨⟨s, hs⟩, ⟨l, hl⟩⟩ := p
  have e : posOf ⟨s, hs⟩ ⟨l, hl⟩ = posIn (blkOf ⟨s, hs⟩ (blockOf ⟨l, hl⟩)) ⟨l % 128, Nat.mod_lt _ (by decide)⟩ := by
    refine Fin.ext ?_
    show 2048 * (s % 4) + l = 128 * (16 * (s % 4) + l / 128) + l % 128
    omega
  unfold pointToken token
  rw [e, mul_comm]
  rfl

/-- The sum over the points of the sums over their tokens is the sum over all tokens. -/
theorem sum_points : ∑ s : Fin 192, ∑ l : Fin 2048, pointToken a0 a1 a2 a3 ci co s l
    = ∑ q : Fin 48 × Fin 64 × Fin 128, token a0 a1 a2 a3 ci co q.1 q.2.1 q.2.2 := by
  rw [← Fintype.sum_prod_type' (f := fun s l => pointToken a0 a1 a2 a3 ci co s l)]
  exact Fintype.sum_equiv tokenEquiv _ _ (pointToken_eq a0 a1 a2 a3 ci co)

end Cert.Tokens
end
-- ==== Proof.Block.lean ====
/- What one grid point of the kernel leaves, over the extended reals: its sixteen stores of scaled activations and its
   sixteen stores of scaled output gradients fill two scratch buffers block by block, and the point adds their product into
   the accumulator. -/
module

public import proofs.«01_k».proof.Proof.Equation
public import proofs.«01_k».proof.Proof.Gen.KernelIdeal.Frame
public import Idealize.ShloMosaic.Lib.Pipeline.Value
public import Idealize.ShloMosaic.Lib.ValueIdx
public import Idealize.ShloMosaic.PureOps.Ideal.Laws

@[expose] public section

noncomputable section

open Idealize.ShloMosaic Idealize.ShloMosaic.TcCoe Idealize.SL.Sem Idealize.ShloMosaic.ValueIdx

namespace Cert.KernelIdeal.Val

open Cert.KernelIdeal Cert.KernelIdeal.Gen Cert.Tokens

/-- The offsets `[0, 0]` are zero on each axis. -/
theorem hz2 : (![0, 0] : Fin 2 → Nat) = fun _ => 0 := funext fun a => by fin_cases a <;> rfl
/-- The offsets `[0, 0, 0]` are zero on each axis. -/
theorem hz3 : (![0, 0, 0] : Fin 3 → Nat) = fun _ => 0 := funext fun a => by fin_cases a <;> rfl

/-- The scaled activations one point gathers: token `l`, input channel `ci`, is the code times its block's scale. -/
def xsV (x0 : Vec Ideal S1x2048x896 .fp8e4m3) (x1 : Vec Ideal S1x16x896 .f32) : Vec Ideal S2048x896 .bf16 :=
  fun y => (x0 (ix3 0 (y 0) (y 1)) * x1 (ix3 0 (blockOf (y 0)) (y 1)) : EReal)

/-- The scaled output gradients one point gathers, output channel first: the code times its block's scale. -/
def ysV (x2 : Vec Ideal S1x960x2048 .fp8e5m2) (x3 : Vec Ideal S1x16x960 .f32) : Vec Ideal S960x2048 .bf16 :=
  fun y => (x2 (ix3 0 (y 0) (y 1)) * x3 (ix3 0 (blockOf (y 1)) (y 0)) : EReal)

/-- The blocks in the order a list of stores holds them: the last one first. -/
abbrev blocks : List (Fin 16) := [15, 14, 13, 12, 11, 10, 9, 8, 7, 6, 5, 4, 3, 2, 1, 0]

/-- Every block is stored. -/
theorem mem_blocks : ∀ b : Fin 16, b ∈ blocks := by decide

/-- The stores and loads of a block stay inside their buffers: the scaled activations, -/
theorem inbX : ∀ b : Fin 16, ∀ a, (![128 * b.val, 0] : Fin 2 → Nat) a + (![128, 896] : Fin 2 → Nat) a ≤ S2048x896.size a := by decide
/-- the activations' codes, -/
theorem inbX0 : ∀ b : Fin 16, ∀ a, (![0, 128 * b.val, 0] : Fin 3 → Nat) a + (![1, 128, 896] : Fin 3 → Nat) a ≤ S1x2048x896.size a := by decide
/-- the activations' scales, -/
theorem inbX1 : ∀ b : Fin 16, ∀ a, (![0, b.val, 0] : Fin 3 → Nat) a + (![1, 1, 896] : Fin 3 → Nat) a ≤ S1x16x896.size a := by decide
/-- the scaled output gradients, -/
theorem inbY : ∀ b : Fin 16, ∀ a, (![0, 128 * b.val] : Fin 2 → Nat) a + (![960, 128] : Fin 2 → Nat) a ≤ S960x2048.size a := by decide
/-- and the output gradients' codes. -/
theorem inbY2 : ∀ b : Fin 16, ∀ a, (![0, 0, 128 * b.val] : Fin 3 → Nat) a + (![1, 960, 128] : Fin 3 → Nat) a ≤ S1x960x2048.size a := by decide
/-- A block's column of the transposed scales is a slice of them. -/
theorem slicesY : ∀ b : Fin 16, S960x16.Slices ![0, b.val] S960x1 := by decide

/-- What the store of block `b` of the output gradients holds: codes times the block's row of transposed scales. -/
def yPay (x2 : Vec Ideal S1x960x2048 .fp8e5m2) (x3 : Vec Ideal S1x16x960 .f32) (b : Fin 16) : FVec Ideal S960x128 .bf16 :=
  shapeCast S960x128 (mulf (extf .bf16 (shapeCast S960x128
      (View.ld x2 (Rect.unit (s := S1x960x2048) ![0, 0, 128 * b.val] ![1, 960, 128] (inbY2 b)))
      shapeCasts_S1x960x128_S960x128 : FVec Ideal S960x128 .fp8e5m2) bitsLt_fp8e5m2_bf16)
    (broadcastTo S960x128 (extractStridedSlice S960x1 ![0, b.val] (k0_pay1 (F := Ideal) x3) (slicesY b)) broadcasts_S960x1_S960x128))
    shapeCasts_S960x128_S960x128

/-- Block `b` of the activations: the store's payload is `xsV` at the rows the store writes. -/
theorem xblk (x0 : Vec Ideal S1x2048x896 .fp8e4m3) (x1 : Vec Ideal S1x16x896 .f32) (b : Fin 16)
    (x : (Rect.unit (s := S2048x896) ![128 * b.val, 0] ![128, 896] (inbX b)).shape.Idx) :
    k0_pay2 (F := Ideal) (View.ld x0 (Rect.unit (s := S1x2048x896) ![0, 128 * b.val, 0] ![1, 128, 896] (inbX0 b)))
        (View.ld x1 (Rect.unit (s := S1x16x896) ![0, b.val, 0] ![1, 1, 896] (inbX1 b))) x
      = xsV x0 x1 ((Rect.unit (s := S2048x896) ![128 * b.val, 0] ![128, 896] (inbX b)).emb x) := by
  have h0 : (x 0).val < 128 := (x 0).isLt
  have h1 : (x 1).val < 896 := (x 1).isLt
  unfold k0_pay2 xsV
  simp only [shapeCast_self, mulf_apply, extf_apply]
  refine congrArg₂ (fun a b : EReal => a * b) ?_ ?_
  · refine (shapeCast_dropUnit_apply ![128, 896] _ shapeCasts_S1x128x896_S128x896 x).trans ?_
    refine congrArg x0 (funext fun a => Fin.ext ?_)
    match a with
    | ⟨0, _⟩ => rfl
    | ⟨1, _⟩ => rfl
    | ⟨2, _⟩ => rfl
  · refine (broadcastTo_apply _ broadcasts_S1x896_S128x896 x (ix2 0 (x 1)) ?_).trans ?_
    · intro a
      match a with
      | ⟨0, _⟩ => rfl
      | ⟨1, _⟩ => rfl
    rw [truncf_apply]
    refine (shapeCast_dropUnit_apply ![1, 896] _ shapeCasts_S1x1x896_S1x896 _).trans ?_
    refine congrArg x1 (funext fun a => Fin.ext ?_)
    match a with
    | ⟨0, _⟩ => rfl
    | ⟨1, _⟩ =>
      show b.val + 1 * 0 = (128 * b.val + 1 * (x 0).val) / 128
      omega
    | ⟨2, _⟩ => rfl

/-- Block `b` of the output gradients: the store's payload is `ysV` at the columns the store writes. -/
theorem yblk (x2 : Vec Ideal S1x960x2048 .fp8e5m2) (x3 : Vec Ideal S1x16x960 .f32) (b : Fin 16)
    (x : (Rect.unit (s := S960x2048) ![0, 128 * b.val] ![960, 128] (inbY b)).shape.Idx) :
    yPay x2 x3 b x = ysV x2 x3 ((Rect.unit (s := S960x2048) ![0, 128 * b.val] ![960, 128] (inbY b)).emb x) := by
  have h0 : (x 0).val < 960 := (x 0).isLt
  have h1 : (x 1).val < 128 := (x 1).isLt
  unfold yPay k0_pay1 ysV
  simp only [shapeCast_self, mulf_apply, extf_apply]
  refine congrArg₂ (fun a b : EReal => a * b) ?_ ?_
  · refine (shapeCast_dropUnit_apply ![960, 128] _ shapeCasts_S1x960x128_S960x128 x).trans ?_
    refine congrArg x2 (funext fun a => Fin.ext ?_)
    match a with
    | ⟨0, _⟩ => rfl
    | ⟨1, _⟩ => rfl
    | ⟨2, _⟩ => rfl
  · refine (broadcastTo_apply _ broadcasts_S960x1_S960x128 x (ix2 (x 0) 0) ?_).trans ?_
    · intro a
      match a with
      | ⟨0, _⟩ => rfl
      | ⟨1, _⟩ => rfl
    refine (extractStridedSlice_apply _ _ (slicesY b) _ (ix2 (x 0) b) ?_).trans ?_
    · intro a
      match a with
      | ⟨0, _⟩ => show (x 0).val = 0 + (x 0).val; omega
      | ⟨1, _⟩ => rfl
    refine (transpose_apply _ _ transposes_S16x960_p1_0_S960x16 _ (ix2 b (x 0)) ?_).trans ?_
    · intro a
      match a with
      | ⟨0, _⟩ => rfl
      | ⟨1, _⟩ => rfl
    rw [truncf_apply]
    refine (shapeCast_dropUnit_apply ![16, 960] _ shapeCasts_S1x16x960_S16x960 _).trans ?_
    refine congrArg x3 (funext fun a => Fin.ext ?_)
    match a with
    | ⟨0, _⟩ => rfl
    | ⟨1, _⟩ =>
      show b.val = (128 * b.val + 1 * (x 1).val) / 128
      omega
    | ⟨2, _⟩ =>
      show (x 0).val = 0 + 1 * (x 0).val
      omega

/-- A load of a whole buffer after a list of stores reads what those stores leave. -/
theorem readCov_whole {Val : EltTy → Type} {S : Shape} {e : EltTy} [∀ e, Nonempty (Val e)] {σ : RefSig} {κ : Kind} {sp : Space}
    (v : View σ κ sp S e) {off : Fin S.rank → Nat} (h : off = fun _ => 0) (inb : ∀ a, off a + S.size a ≤ S.size a)
    (L : List (View.Piece Val S e)) : v.readCov L (Rect.unit off S.size inb).toLoadRect = View.canon L :=
  (View.readCov_eq_canon' v L _).trans (View.ld_unit_zero h inb (View.canon L))

/-- What one point adds into the accumulator it finds: the product of the two gathered operands. -/
def step (x0 : Vec Ideal S1x2048x896 .fp8e4m3) (x1 : Vec Ideal S1x16x896 .f32) (x2 : Vec Ideal S1x960x2048 .fp8e5m2)
    (x3 : Vec Ideal S1x16x960 .f32) (acc : Vec Ideal S960x896 .f32) : Vec Ideal S960x896 .f32 :=
  k0_pay44 (F := Ideal) acc (ysV x2 x3) (xsV x0 x1)

/-- The store of block `b` of the scaled activations: its rows and its payload. -/
def xPiece (x0 : Vec Ideal S1x2048x896 .fp8e4m3) (x1 : Vec Ideal S1x16x896 .f32) (b : Fin 16) :
    View.Piece (Elt Ideal) S2048x896 .bf16 :=
  ⟨Rect.unit (s := S2048x896) ![128 * b.val, 0] ![128, 896] (inbX b),
    k0_pay2 (F := Ideal) (View.ld x0 (Rect.unit (s := S1x2048x896) ![0, 128 * b.val, 0] ![1, 128, 896] (inbX0 b)))
      (View.ld x1 (Rect.unit (s := S1x16x896) ![0, b.val, 0] ![1, 1, 896] (inbX1 b)))⟩

/-- The store of block `b` of the scaled output gradients: its columns and its payload. -/
def yPiece (x2 : Vec Ideal S1x960x2048 .fp8e5m2) (x3 : Vec Ideal S1x16x960 .f32) (b : Fin 16) :
    View.Piece (Elt Ideal) S960x2048 .bf16 :=
  ⟨Rect.unit (s := S960x2048) ![0, 128 * b.val] ![960, 128] (inbY b), yPay x2 x3 b⟩

/-- The sixteen stores of scaled activations leave `xsV`. -/
theorem canon_xs (x0 : Vec Ideal S1x2048x896 .fp8e4m3) (x1 : Vec Ideal S1x16x896 .f32) :
    View.canon (blocks.map (xPiece x0 x1)) = xsV x0 x1 := by
  funext y
  refine View.canon_apply_of_pieces (xsV x0 x1) _ ?_ y
    ⟨xPiece x0 x1 (blockOf (y 0)), List.mem_map_of_mem (mem_blocks _), ?_⟩
  · intro p hp
    obtain ⟨b, -, rfl⟩ := List.mem_map.mp hp
    exact xblk x0 x1 b
  · have h0 : (y 0).val < 2048 := (y 0).isLt
    have h1 : (y 1).val < 896 := (y 1).isLt
    refine (Rect.mem_set_unit (inb := inbX _)).mpr fun a => ?_
    match a with
    | ⟨0, _⟩ => show 128 * ((y 0).val / 128) ≤ (y 0).val ∧ (y 0).val < 128 * ((y 0).val / 128) + 128; omega
    | ⟨1, _⟩ => show 0 ≤ (y 1).val ∧ (y 1).val < 0 + 896; omega

/-- The sixteen stores of scaled output gradients leave `ysV`. -/
theorem canon_ys (x2 : Vec Ideal S1x960x2048 .fp8e5m2) (x3 : Vec Ideal S1x16x960 .f32) :
    View.canon (blocks.map (yPiece x2 x3)) = ysV x2 x3 := by
  funext y
  refine View.canon_apply_of_pieces (ysV x2 x3) _ ?_ y
    ⟨yPiece x2 x3 (blockOf (y 1)), List.mem_map_of_mem (mem_blocks _), ?_⟩
  · intro p hp
    obtain ⟨b, -, rfl⟩ := List.mem_map.mp hp
    exact yblk x2 x3 b
  · have h0 : (y 0).val < 960 := (y 0).isLt
    have h1 : (y 1).val < 2048 := (y 1).isLt
    refine (Rect.mem_set_unit (inb := inbY _)).mpr fun a => ?_
    match a with
    | ⟨0, _⟩ => show 0 ≤ (y 0).val ∧ (y 0).val < 0 + 960; omega
    | ⟨1, _⟩ => show 128 * ((y 1).val / 128) ≤ (y 1).val ∧ (y 1).val < 128 * ((y 1).val / 128) + 128; omega

variable (c : Dev nD) (i : grid0.Coords) (arg1 : Memref sig .tc .vmem S1x2048x896 .fp8e4m3) (harg1 : arg1.IsWhole) (arg2 : Memref sig .tc .vmem S1x16x896 .f32) (harg2 : arg2.IsWhole) (arg3 : Memref sig .tc .vmem S1x960x2048 .fp8e5m2) (harg3 : arg3.IsWhole) (arg4 : Memref sig .tc .vmem S1x16x960 .f32) (harg4 : arg4.IsWhole) (arg5 : Memref sig .tc .vmem S960x896 .f32) (harg5 : arg5.IsWhole) (arg6 : Memref sig .tc .vmem S960x896 .f32) (harg6 : arg6.IsWhole) (arg7 : Memref sig .tc .vmem S2048x896 .bf16) (harg7 : arg7.IsWhole) (arg8 : Memref sig .tc .vmem S960x2048 .bf16) (harg8 : arg8.IsWhole)
  (x0 : Vec Ideal S1x2048x896 .fp8e4m3) (x1 : Vec Ideal S1x16x896 .f32) (x2 : Vec Ideal S1x960x2048 .fp8e5m2) (x3 : Vec Ideal S1x16x960 .f32) (x4 xo5 : Vec Ideal S960x896 .f32)

/-- A later point: it adds its product into what the point before left. -/
theorem out_B (hc0 : ¬cond0_0 i) :
    out0_B_5 c i arg1 harg1 arg2 harg2 arg3 harg3 arg4 harg4 arg5 harg5 arg6 harg6 arg7 harg7 arg8 harg8 hc0 x0 x1 x2 x3 x4 xo5 = step x0 x1 x2 x3 xo5 := by
  unfold out0_B_5
  rw [View.read_writes_junk_eq_canon]
  unfold kernelRun0_B
  dsimp only
  sl_unfold_words
  rw [View.canon_cons_unit_zero (S := S960x896) hz2]
  simp only [readCov_whole (S := S960x2048) _ hz2, readCov_whole (S := S2048x896) _ hz2, View.readAt_eq_ld, harg1.read_unread, harg2.read_unread, harg3.read_unread, harg4.read_unread, harg6.read_unread, View.ld_unit_zero (S := S960x896) hz2, View.ld_unit_zero (S := S1x16x960) hz3]
  unfold step
  rw [← canon_ys, ← canon_xs]
  rfl

/-- The first point: it adds its product into the gradient it was given. -/
theorem out_A (hc0 : cond0_0 i) :
    out0_A_5 c i arg1 harg1 arg2 harg2 arg3 harg3 arg4 harg4 arg5 harg5 arg6 harg6 arg7 harg7 arg8 harg8 hc0 x0 x1 x2 x3 x4 = step x0 x1 x2 x3 x4 := by
  unfold out0_A_5
  rw [View.read_writes_junk_eq_canon]
  unfold kernelRun0_A
  dsimp only
  sl_unfold_words
  rw [View.canon_cons_unit_zero (S := S960x896) hz2]
  simp only [readCov_whole (S := S960x2048) _ hz2, readCov_whole (S := S2048x896) _ hz2, readCov_whole (S := S960x896) _ hz2, View.canon_cons_unit_zero (S := S960x896) hz2, k0_pay43, shapeCast_self, View.readAt_eq_ld, harg1.read_unread, harg2.read_unread, harg3.read_unread, harg4.read_unread, harg5.read_unread, View.ld_unit_zero (S := S960x896) hz2, View.ld_unit_zero (S := S1x16x960) hz3]
  unfold step
  rw [← canon_ys, ← canon_xs]
  rfl

end Cert.KernelIdeal.Val
end
-- ==== Proof.Fold.lean ====
/- What the kernel's result holds, over the extended reals: the blocks the grid points read as parts of the arguments, the
   accumulator after each point as a sum over the points so far, and the run of the whole program. -/
module

public import proofs.«01_k».proof.Proof.Block
public import Idealize.ShloMosaic.Lib.MatmulPlain
public import Idealize.ShloMosaic.Lib.StableHlo.Run

@[expose] public section

noncomputable section

open Idealize.ShloMosaic Idealize.ShloMosaic.TcCoe Idealize.SL.Sem Idealize.ShloMosaic.ValueIdx
open Idealize.ShloMosaic.Pipeline (Dat)
open scoped BigOperators

namespace Cert.KernelIdeal.Val

open Cert.KernelIdeal Cert.KernelIdeal.Gen Cert.Tokens

/-! ## One point -/

/-- What a point adds at (output channel, input channel): the sum over its 2048 tokens. -/
theorem step_apply (x0 : Vec Ideal S1x2048x896 .fp8e4m3) (x1 : Vec Ideal S1x16x896 .f32) (x2 : Vec Ideal S1x960x2048 .fp8e5m2)
    (x3 : Vec Ideal S1x16x960 .f32) (acc : Vec Ideal S960x896 .f32) (co : Fin 960) (ci : Fin 896) :
    step x0 x1 x2 x3 acc (ix2 co ci)
      = (acc (ix2 co ci) + ∑ l : Fin 2048, ysV x2 x3 (ix2 co l) * xsV x0 x1 (ix2 l ci) : EReal) := by
  unfold step k0_pay44
  simp only [shapeCast_self]
  rw [addf_apply]
  refine congrArg (fun z : EReal => acc (ix2 co ci) + z) ?_
  refine (Ideal.matmul_plain_apply none _ _ _ co ci).trans ?_
  rw [constant_apply, Ideal.ofBits_zero_f32, zero_add]

variable (m : (ℓ : Loc nD τ sig) → Buf (Elt Ideal) ℓ) (ρ : Dev nD → PrngReg)

/-! ## The arguments, and the two arrays the host prepares -/

/-- The activations' codes. -/
abbrev A0 (c : Dev nD) : Vec Ideal S48x8192x896 .fp8e4m3 := m ((c : Thread nD τ).loc main_arg0)
/-- The activations' scales. -/
abbrev A1 (c : Dev nD) : Vec Ideal S48x64x896 .f32 := m ((c : Thread nD τ).loc main_arg1)
/-- The output gradients' codes. -/
abbrev A2 (c : Dev nD) : Vec Ideal S48x8192x960 .fp8e5m2 := m ((c : Thread nD τ).loc main_arg2)
/-- The output gradients' scales. -/
abbrev A3 (c : Dev nD) : Vec Ideal S48x64x960 .f32 := m ((c : Thread nD τ).loc main_arg3)
/-- The gradient accumulated so far. -/
abbrev A4 (c : Dev nD) : Vec Ideal S896x960 .f32 := m ((c : Thread nD τ).loc main_arg4)

/-- The host hands the kernel the output gradients' codes with the last two axes exchanged. -/
theorem V_main_v0 (c : Dev nD) : V m c main_v0
    = transpose S48x960x8192 [0, 2, 1] (A2 m c) transposes_S48x8192x960_S48x960x8192_0_2_1 := by
  show StableHlo.after (hostOps0 (F := Ideal)) (fun b => m (c, b)) (Proc.devRef .tc main_v0) = _
  after_results

/-- The host hands the kernel the accumulated gradient transposed. -/
theorem V_main_v1 (c : Dev nD) : V m c main_v1
    = transpose S960x896 [1, 0] (A4 m c) transposes_S896x960_S960x896_1_0 := by
  show StableHlo.after (hostOps0 (F := Ideal)) (fun b => m (c, b)) (Proc.devRef .tc main_v1) = _
  after_results

/-! ## The blocks the points read -/

/-- A grid point as a number below 192. -/
def pt (t : Fin cfg0.N) : Fin 192 := t.cast N_0

/-- The block each point reads or writes, as block numbers: the activations' codes, by sequence and quarter, -/
theorem idx0 : ∀ t : Fin cfg0.N, win0_0.index t (0 : Fin 3) = t.val / 4 ∧ win0_0.index t (1 : Fin 3) = t.val % 4 ∧ win0_0.index t (2 : Fin 3) = 0 :=
  (by decide +kernel : ∀ t : Fin grid0.N, _)
/-- the activations' scales, likewise, -/
theorem idx1 : ∀ t : Fin cfg0.N, win0_1.index t (0 : Fin 3) = t.val / 4 ∧ win0_1.index t (1 : Fin 3) = t.val % 4 ∧ win0_1.index t (2 : Fin 3) = 0 :=
  (by decide +kernel : ∀ t : Fin grid0.N, _)
/-- the output gradients' codes, likewise, the quarter on the last axis, -/
theorem idx2 : ∀ t : Fin cfg0.N, win0_2.index t (0 : Fin 3) = t.val / 4 ∧ win0_2.index t (1 : Fin 3) = 0 ∧ win0_2.index t (2 : Fin 3) = t.val % 4 :=
  (by decide +kernel : ∀ t : Fin grid0.N, _)
/-- the output gradients' scales, likewise, -/
theorem idx3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, _)
/-- the gradient given, whole, -/
theorem idx4 : ∀ t : Fin cfg0.N, win0_4.index t (0 : Fin 2) = 0 ∧ win0_4.index t (1 : Fin 2) = 0 :=
  (by decide +kernel : ∀ t : Fin grid0.N, _)
/-- and the result, whole. -/
theorem idx5 : ∀ t : Fin cfg0.N, win0_5.index t (0 : Fin 2) = 0 ∧ win0_5.index t (1 : Fin 2) = 0 :=
  (by decide +kernel : ∀ t : Fin grid0.N, _)

/-- Point `t` reads its 2048 tokens' activation codes. -/
theorem iblk0 (c : Dev nD) (t : Fin cfg0.N) (l : Fin 2048) (ci : Fin 896) :
    (iblk m c 0 t : Vec Ideal S1x2048x896 .fp8e4m3) (ix3 0 l ci) = A0 m c (ix3 (seqOf (pt t)) (posOf (pt t) l) ci) := by
  obtain ⟨h0, h1, h2⟩ := idx0 t
  unfold iblk
  rw [View.read_apply]
  show V m c main_arg0 _ = _
  rw [V_main_arg0]
  refine congrArg (A0 m c) (funext fun a => Fin.ext ?_)
  match a with
  | ⟨0, _⟩ => show win0_0.index t (0 : Fin 3) * 1 + 1 * 0 = t.val / 4; rw [h0]; omega
  | ⟨1, _⟩ => show win0_0.index t (1 : Fin 3) * 2048 + 1 * l.val = 2048 * (t.val % 4) + l.val; rw [h1]; omega
  | ⟨2, _⟩ => show win0_0.index t (2 : Fin 3) * 896 + 1 * ci.val = ci.val; rw [h2]; omega

/-- Point `t` reads its 16 blocks' activation scales. -/
theorem iblk1 (c : Dev nD) (t : Fin cfg0.N) (k : Fin 16) (ci : Fin 896) :
    (iblk m c 1 t : Vec Ideal S1x16x896 .f32) (ix3 0 k ci) = A1 m c (ix3 (seqOf (pt t)) (blkOf (pt t) k) ci) := by
  obtain ⟨h0, h1, h2⟩ := idx1 t
  unfold iblk
  rw [View.read_apply]
  show V m c main_arg1 _ = _
  rw [V_main_arg1]
  refine congrArg (A1 m c) (funext fun a => Fin.ext ?_)
  match a with
  | ⟨0, _⟩ => show win0_1.index t (0 : Fin 3) * 1 + 1 * 0 = t.val / 4; rw [h0]; omega
  | ⟨1, _⟩ => show win0_1.index t (1 : Fin 3) * 16 + 1 * k.val = 16 * (t.val % 4) + k.val; rw [h1]; omega
  | ⟨2, _⟩ => show win0_1.index t (2 : Fin 3) * 896 + 1 * ci.val = ci.val; rw [h2]; omega

/-- Point `t` reads its 2048 tokens' output-gradient codes, output channel first. -/
theorem iblk2 (c : Dev nD) (t : Fin cfg0.N) (co : Fin 960) (l : Fin 2048) :
    (iblk m c 2 t : Vec Ideal S1x960x2048 .fp8e5m2) (ix3 0 co l) = A2 m c (ix3 (seqOf (pt t)) (posOf (pt t) l) co) := by
  obtain ⟨h0, h1, h2⟩ := idx2 t
  unfold iblk
  rw [View.read_apply]
  show V m c main_v0 _ = _
  rw [V_main_v0]
  refine transpose_apply [0, 2, 1] (A2 m c) _ _ _ fun a => ?_
  match a with
  | ⟨0, _⟩ => show t.val / 4 = win0_2.index t (0 : Fin 3) * 1 + 1 * 0; rw [h0]; omega
  | ⟨1, _⟩ => show co.val = win0_2.index t (1 : Fin 3) * 960 + 1 * co.val; rw [h1]; omega
  | ⟨2, _⟩ => show 2048 * (t.val % 4) + l.val = win0_2.index t (2 : Fin 3) * 2048 + 1 * l.val; rw [h2]; omega

/-- Point `t` reads its 16 blocks' output-gradient scales. -/
theorem iblk3 (c : Dev nD) (t : Fin cfg0.N) (k : Fin 16) (co : Fin 960) :
    (iblk m c 3 t : Vec Ideal S1x16x960 .f32) (ix3 0 k co) = A3 m c (ix3 (seqOf (pt t)) (blkOf (pt t) k) co) := by
  obtain ⟨h0, h1, h2⟩ := idx3 t
  unfold iblk
  rw [View.read_apply]
  show V m c main_arg3 _ = _
  rw [V_main_arg3]
  refine congrArg (A3 m c) (funext fun a => Fin.ext ?_)
  match a with
  | ⟨0, _⟩ => show win0_3.index t (0 : Fin 3) * 1 + 1 * 0 = t.val / 4; rw [h0]; omega
  | ⟨1, _⟩ => show win0_3.index t (1 : Fin 3) * 16 + 1 * k.val = 16 * (t.val % 4) + k.val; rw [h1]; omega
  | ⟨2, _⟩ => show win0_3.index t (2 : Fin 3) * 960 + 1 * co.val = co.val; rw [h2]; omega

/-- Every point reads the whole accumulated gradient, transposed. -/
theorem iblk4 (c : Dev nD) (t : Fin cfg0.N) (co : Fin 960) (ci : Fin 896) :
    (iblk m c 4 t : Vec Ideal S960x896 .f32) (ix2 co ci) = A4 m c (ix2 ci co) := by
  obtain ⟨h0, h1⟩ := idx4 t
  unfold iblk
  rw [View.read_apply]
  show V m c main_v1 _ = _
  rw [V_main_v1]
  refine transpose_apply [1, 0] (A4 m c) _ _ _ fun a => ?_
  match a with
  | ⟨0, _⟩ => show co.val = win0_4.index t (0 : Fin 2) * 960 + 1 * co.val; rw [h0]; omega
  | ⟨1, _⟩ => show ci.val = win0_4.index t (1 : Fin 2) * 896 + 1 * ci.val; rw [h1]; omega

/-! ## The accumulator -/

/-- What point `s` adds at (output channel, input channel). -/
def pointSum (c : Dev nD) (co : Fin 960) (ci : Fin 896) (s : Fin 192) : EReal :=
  ∑ l : Fin 2048, pointToken (A0 m c) (A1 m c) (A2 m c) (A3 m c) ci co s l

/-- A point's step, in the arguments: it adds its tokens' sum. -/
theorem step_iblk (c : Dev nD) (t : Fin cfg0.N) (acc : Vec Ideal S960x896 .f32) (co : Fin 960) (ci : Fin 896) :
    step (iblk m c 0 t) (iblk m c 1 t) (iblk m c 2 t) (iblk m c 3 t) acc (ix2 co ci)
      = (acc (ix2 co ci) + pointSum m c co ci (pt t) : EReal) := by
  refine (step_apply _ _ _ _ acc co ci).trans (congrArg (fun z : EReal => acc (ix2 co ci) + z) ?_)
  refine Finset.sum_congr rfl fun l _ => congrArg₂ (fun a b : EReal => a * b) ?_ ?_
  · exact congrArg₂ (fun a b : EReal => a * b) (iblk2 m c t co l) (iblk3 m c t (blockOf l) co)
  · exact congrArg₂ (fun a b : EReal => a * b) (iblk0 m c t l ci) (iblk1 m c t (blockOf l) ci)

/-- After point `n` the accumulator holds the gradient given plus what the points up to `n` add. -/
theorem outsAt_apply (c : Dev nD) (co : Fin 960) (ci : Fin 896) : ∀ (n : ℕ) (h : n < cfg0.N) (h' : n + 1 ≤ 192),
    outsAt0 m c n h (ix2 co ci)
      = (A4 m c (ix2 ci co) + ∑ s : Fin (n + 1), pointSum m c co ci (s.castLE h') : EReal)
  | 0, h, h' => by
    rw [outsAt0_A m c ⟨0, h⟩ rfl, out_A, step_iblk, iblk4, Fin.sum_univ_one]
    rfl
  | n + 1, h, h' => by
    have hB : ¬(⟨n + 1, h⟩ : Fin cfg0.N).val % 192 = 0 := by dsimp only; omega
    rw [outsAt0_B m c ⟨n + 1, h⟩ hB, out_B, step_iblk, Fin.sum_univ_castSucc, ← add_assoc]
    exact congrArg (fun z : EReal => z + pointSum m c co ci (pt ⟨n + 1, h⟩))
      (outsAt_apply c co ci n (Nat.lt_of_succ_lt h) (Nat.le_of_succ_le h'))

/-- The last point. -/
def last : Fin cfg0.N := ⟨191, by rw [show cfg0.N = 192 from N_0]; decide⟩

/-- What the kernel's result array ends holding: the accumulator after the last point. -/
abbrev result (c : Dev nD) : Buf (Elt Ideal) ((c : Thread nD τ).loc main_v2) := outsAt0 m c last.val last.isLt

/-- The last point's block of the result array is the whole array, whatever it holds. -/
theorem blk_last (c : Dev nD) (R : Buf (Elt Ideal) ((c : Thread nD τ).loc main_v2)) :
    (cfg0.win 5).cut (grid0.coords last) R = ((cfg0.win 5).blk last).view.read (Elt Ideal) R := by
  have hz' : (fun a => win0_5.index last a * main_v2.ty.shape.size a) = fun _ => 0 := funext fun a => by
    match a with
    | ⟨0, _⟩ => show win0_5.index last (0 : Fin 2) * 960 = 0; rw [(idx5 last).1]
    | ⟨1, _⟩ => show win0_5.index last (1 : Fin 2) * 896 = 0; rw [(idx5 last).2]
  exact (Memref.read_access_unit_zero (Elt Ideal) main_v2 hz' (fun a => by rw [congrFun hz' a]; simp) R).symm

/-- The one write-back, after the last point, writes the accumulator whole. -/
theorem flushed_eq (c : Dev nD) (t : Fin cfg0.N) (hf : (cfg0.win 5).flush t = true) :
    (dats m 0 c).flushed 5 t = ((cfg0.win 5).blk t).view.read (Elt Ideal) (result m c) := by
  have hN : cfg0.N = 192 := N_0
  have h3 : t.val = 191 := by have := (flush0_5 t).mp hf; have := t.isLt; omega
  obtain rfl : t = last := Fin.ext h3
  show (cfg0.win 5).cut (grid0.coords last) ((dats m 0 c).after 5 last) = _
  rw [after0_5]
  exact blk_last c _

/-- So the kernel's result array ends holding the accumulator after the last point. -/
theorem final_o (c : Dev nD) : (dats m 0 c).arrAt 5 cfg0.N = result m c :=
  (dats m 0 c).arrAt_eq_of_cover 5 (result m c) (flushed_eq m c) fun i =>
    ⟨last, (flush0_5 last).mpr rfl, by
      show i ∈ ((View.whole main_v2).slice (win0_5.rect last)).set
      rw [View.set_slice_whole, Rect.mem_set_unit]
      intro a
      have h0 : (i 0 : Nat) < 960 := (i 0).isLt
      have h1 : (i 1 : Nat) < 896 := (i 1).isLt
      match a with
      | ⟨0, _⟩ => show win0_5.index last (0 : Fin 2) * 960 ≤ (i 0 : Nat) ∧ (i 0 : Nat) < win0_5.index last (0 : Fin 2) * 960 + 960
                  rw [(idx5 last).1]; omega
      | ⟨1, _⟩ => show win0_5.index last (1 : Fin 2) * 896 ≤ (i 1 : Nat) ∧ (i 1 : Nat) < win0_5.index last (1 : Fin 2) * 896 + 896
                  rw [(idx5 last).2]; omega⟩

/-! ## The program -/

/-- The program's result: the kernel's result transposed back. -/
abbrev out (c : Dev nD) : Vec Ideal S896x960 .f32 :=
  transpose S896x960 [1, 0] (result m c) transposes_S960x896_S896x960_1_0

/-- The host's last line leaves the transposed result. -/
theorem tail_v3 (c : Dev nD) : Pipeline.afterTail₀ cfgs (dats m) 0 (V0 m) [hostOps1] c main_v3 = out m c := by
  have e : Pipeline.withArrays (cfgs 0).spec c (V0 m c) (fun w => (dats m 0 c).arrAt w (cfgs 0).N)
      (Proc.devRef .tc (Pipeline.arrRef spec0 5)) = (dats m 0 c).arrAt 5 (cfgs 0).N :=
    Pipeline.withArrays_arr spec0 (by decide) c (V0 m c) _ 5
  unfold Pipeline.afterTail₀
  show StableHlo.after (hostOps1 (F := Ideal)) _ (Proc.devRef .tc main_v3) = _
  after_results
  exact congrArg (fun z => transpose S896x960 [1, 0] z transposes_S960x896_S896x960_1_0) (e.trans (final_o m c))

/-- The run, read: the result at `out`, the arguments unchanged. -/
theorem run : θ_run defs (onTc (τ := τ) (main (F := Ideal))) ⟨m, fun _ => 0, ρ⟩ (fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v3 (Pipeline.mem_restRefs_of main_v3 (by decide) (by decide))).trans (tail_v3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩) (run_main m ρ)

/-- THE KERNEL at (input channel, output channel): the gradient it was given plus the sum of what every token adds. -/
theorem out_apply (c : Dev nD) (ci : Fin 896) (co : Fin 960) : out m c (ix2 ci co)
    = (A4 m c (ix2 ci co)
        + ∑ q : Fin 48 × Fin 64 × Fin 128, token (A0 m c) (A1 m c) (A2 m c) (A3 m c) ci co q.1 q.2.1 q.2.2 : EReal) := by
  rw [← sum_points]
  refine (transpose_apply [1, 0] (result m c) _ (ix2 ci co) (ix2 co ci) ?_).trans (outsAt_apply m c co ci last.val last.isLt (le_refl _))
  intro a
  match a with
  | ⟨0, _⟩ => rfl
  | ⟨1, _⟩ => rfl

end Cert.KernelIdeal.Val
end
-- ==== Proof.RefSide.lean ====
/- What the reference computes, at an index: the gradient it was given plus the sum over all tokens. -/
module

public import proofs.«01_k».proof.Proof.Equation
public import proofs.«01_k».proof.Proof.Gen.ReferenceIdeal.Value
public import Idealize.ShloMosaic.Lib.Pipeline.Value
public import Idealize.ShloMosaic.PureOps.Ideal.Laws

@[expose] public section

noncomputable section

open Idealize.ShloMosaic Idealize.ShloMosaic.TcCoe Idealize.ShloMosaic.ValueIdx
open scoped BigOperators

namespace Cert.ReferenceIdeal.Val

open Cert.ReferenceIdeal Cert.ReferenceIdeal.Gen Cert.Tokens

/-- The reference's dimension numbers: three contracted axes on both operands. -/
abbrev D : DotDims S48x64x128x896 S48x64x128x960 S896x960 := dot_S48x64x128x896_S48x64x128x960_S896x960_012_012_3_3_n_n

/-- A contraction index is the triple of its coordinates (sequence, block, position in the block). -/
def contrEquiv3 : D.contr.Idx ≃ Fin 48 × Fin 64 × Fin 128 where
  toFun k := (k ⟨0, by decide⟩, k ⟨1, by decide⟩, k ⟨2, by decide⟩)
  invFun q := fun a => match a with
    | ⟨0, _⟩ => q.1
    | ⟨1, _⟩ => q.2.1
    | ⟨2, _⟩ => q.2.2
  left_inv k := by
    funext a
    match a with
    | ⟨0, _⟩ => rfl
    | ⟨1, _⟩ => rfl
    | ⟨2, _⟩ => rfl
  right_inv _ := rfl

/-- The activations' index the product reads at a contraction index. -/
theorem lhsIdx_eq (ci : Fin 896) (co : Fin 960) (k : D.contr.Idx) :
    D.lhsIdx (ix2 ci co) k = ix4 (contrEquiv3 k).1 (contrEquiv3 k).2.1 (contrEquiv3 k).2.2 ci := by
  funext a; apply Fin.ext
  match a with
  | ⟨0, _⟩ => rfl
  | ⟨1, _⟩ => rfl
  | ⟨2, _⟩ => rfl
  | ⟨3, _⟩ => rfl

/-- The output gradients' index the product reads at a contraction index. -/
theorem rhsIdx_eq (ci : Fin 896) (co : Fin 960) (k : D.contr.Idx) :
    D.rhsIdx (ix2 ci co) k = ix4 (contrEquiv3 k).1 (contrEquiv3 k).2.1 (contrEquiv3 k).2.2 co := by
  funext a; apply Fin.ext
  match a with
  | ⟨0, _⟩ => rfl
  | ⟨1, _⟩ => rfl
  | ⟨2, _⟩ => rfl
  | ⟨3, _⟩ => rfl

/-- An operand the reference forms — codes in blocks times one scale per block and channel —, at an index. -/
theorem operand_apply {C : ℕ} {φ : FTy} (hφ : φ.bits < FTy.bf16.bits)
    (x : FVec Ideal ⟨3, ![48, 8192, C]⟩ φ) (s : FVec Ideal ⟨3, ![48, 64, C]⟩ .f32)
    (hx : (⟨3, ![48, 8192, C]⟩ : Shape).ShapeCasts ⟨4, ![48, 64, 128, C]⟩)
    (hs : (⟨3, ![48, 64, C]⟩ : Shape).ShapeCasts ⟨4, ![48, 64, 1, C]⟩)
    (hb : (⟨4, ![48, 64, 1, C]⟩ : Shape).Broadcasts ⟨4, ![48, 64, 128, C]⟩)
    (b : Fin 48) (n : Fin 64) (t : Fin 128) (c : Fin C) :
    mulf (extf .bf16 (shapeCast ⟨4, ![48, 64, 128, C]⟩ x hx : FVec Ideal ⟨4, ![48, 64, 128, C]⟩ φ) hφ)
        (broadcastTo ⟨4, ![48, 64, 128, C]⟩
          (truncf .bf16 (shapeCast ⟨4, ![48, 64, 1, C]⟩ s hs : FVec Ideal ⟨4, ![48, 64, 1, C]⟩ .f32) bitsLt_bf16_f32) hb)
        (ix4 b n t c)
      = (x (ix3 b (posIn n t) c) * s (ix3 b n c) : EReal) := by
  rw [mulf_apply, extf_apply]
  refine congrArg₂ (fun a b : EReal => a * b) ?_ ?_
  · refine shapeCast_apply x hx _ _ ?_
    rw [Shape.rowMajor_val_three, Shape.rowMajor_val_four]
    show (b.val * 8192 + (128 * n.val + t.val)) * C + c.val = ((b.val * 64 + n.val) * 128 + t.val) * C + c.val
    ring
  · refine (broadcastTo_apply _ hb _ (ix4 b n 0 c) ?_).trans ?_
    · intro a
      match a with
      | ⟨0, _⟩ => rfl
      | ⟨1, _⟩ => rfl
      | ⟨2, _⟩ => rfl
      | ⟨3, _⟩ =>
        show c.val = if C = 1 then 0 else c.val
        have := c.isLt
        split <;> omega
    rw [truncf_apply]
    refine shapeCast_apply s hs _ _ ?_
    rw [Shape.rowMajor_val_three, Shape.rowMajor_val_four]
    show (b.val * 64 + n.val) * C + c.val = ((b.val * 64 + n.val) * 1 + 0) * C + c.val
    ring

/-- THE REFERENCE at (input channel, output channel): the gradient it was given plus the sum of what every token adds. -/
theorem ref_apply (a0 : Vec Ideal S48x8192x896 .fp8e4m3) (a1 : Vec Ideal S48x64x896 .f32) (a2 : Vec Ideal S48x8192x960 .fp8e5m2)
    (a3 : Vec Ideal S48x64x960 .f32) (a4 : Vec Ideal S896x960 .f32) (ci : Fin 896) (co : Fin 960) :
    k0_pay1 (F := Ideal) a0 a1 a2 a3 a4 (ix2 ci co)
      = (a4 (ix2 ci co) + ∑ q : Fin 48 × Fin 64 × Fin 128, token a0 a1 a2 a3 ci co q.1 q.2.1 q.2.2 : EReal) := by
  unfold k0_pay1
  rw [addf_apply]
  refine congrArg (fun z : EReal => a4 (ix2 ci co) + z) ?_
  refine (Ideal.matmul_constant_zero_apply D none _ _ _).trans ?_
  refine Fintype.sum_equiv contrEquiv3 _ _ fun k => ?_
  rw [lhsIdx_eq, rhsIdx_eq]
  exact congrArg₂ (fun a b : EReal => a * b) (operand_apply _ a0 a1 _ _ _ _ _ _ _) (operand_apply _ a2 a3 _ _ _ _ _ _ _)

end Cert.ReferenceIdeal.Val
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Fold
public import proofs.«01_k».proof.Proof.RefSide
public import Idealize.ShloMosaic.Adequacy
public import Idealize.ShloMosaic.Init

@[expose] public section

noncomputable section

namespace Cert.Proof

open Idealize.ShloMosaic Idealize.SL.Sem Cert.Kernel

/-- The kernel's result is the reference's function of the kernel's arguments: at every index both are the gradient given
    plus the sum of what every token adds. -/
theorem value_eq (m : (ℓ : Loc Cert.KernelIdeal.nD Cert.KernelIdeal.τ Cert.KernelIdeal.sig) → Buf (Elt Ideal) ℓ)
    (c : Dev Cert.KernelIdeal.nD) :
    Cert.ReferenceIdeal.Value.G5 (F := Ideal) (Cert.KernelIdeal.Val.A0 m c) (Cert.KernelIdeal.Val.A1 m c)
      (Cert.KernelIdeal.Val.A2 m c) (Cert.KernelIdeal.Val.A3 m c) (Cert.KernelIdeal.Val.A4 m c)
      = Cert.KernelIdeal.Val.out m c := by
  funext j
  rw [ValueIdx.eq_ix2 j]
  exact (Cert.ReferenceIdeal.Val.ref_apply _ _ _ _ _ _ _).trans (Cert.KernelIdeal.Val.out_apply m c _ _).symm

/-- From memories agreeing on the arguments, the idealized kernel and the idealized reference end with equal results. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Val.out m c, Cert.KernelIdeal.Val.run m g, ?_⟩
  refine (θ_run _ _ _).mono (fun r h c => ⟨(h c).1.trans ?_, (h c).2⟩) (Cert.ReferenceIdeal.Value.run m' g')
  obtain ⟨e0, e1, e2, e3, e4⟩ := hargs c
  refine Eq.trans ?_ (value_eq m c)
  rw [e0, e1, e2, e3, e4]

/-- The claims: the three programs run and leave their arguments and counters as they were, the idealization is the
    kernel's own text, and the idealized kernel's result is the idealized reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
